-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x255x76x76 : Shape := ⟨4, ![32, 255, 76, 76]⟩
abbrev S3x1x85 : Shape := ⟨3, ![3, 1, 85]⟩
abbrev S17328x85 : Shape := ⟨2, ![17328, 85]⟩
abbrev S_ : Shape := ⟨0, ![]⟩
abbrev S32x255x5776 : Shape := ⟨3, ![32, 255, 5776]⟩
abbrev S16x255x5776 : Shape := ⟨3, ![16, 255, 5776]⟩
abbrev S16x5776x255 : Shape := ⟨3, ![16, 5776, 255]⟩
abbrev S32x17328x85 : Shape := ⟨3, ![32, 17328, 85]⟩
abbrev S1x5776x255 : Shape := ⟨3, ![1, 5776, 255]⟩
abbrev S1x17328x85 : Shape := ⟨3, ![1, 17328, 85]⟩
abbrev S1x85 : Shape := ⟨2, ![1, 85]⟩
abbrev S5776x255 : Shape := ⟨2, ![5776, 255]⟩
abbrev S5776x85 : Shape := ⟨2, ![5776, 85]⟩
abbrev S1x1x85 : Shape := ⟨3, ![1, 1, 85]⟩
abbrev S1x5776x85 : Shape := ⟨3, ![1, 5776, 85]⟩

abbrev nBuf : Space → Nat
  | .hbm => 39
  | .vmem => 12
  | .smem => 0
  | _ => 0

abbrev bufTy : (tb : Table) → Fin (tcTables nBuf tb) → BufTy
  | .hbm, ⟨0, _⟩ => ⟨S32x255x76x76, .f32⟩
  | .hbm, ⟨1, _⟩ => ⟨S3x1x85, .f32⟩
  | .hbm, ⟨2, _⟩ => ⟨S17328x85, .i32⟩
  | .hbm, ⟨3, _⟩ => ⟨S17328x85, .i32⟩
  | .hbm, ⟨4, _⟩ => ⟨S_, .i32⟩
  | .hbm, ⟨5, _⟩ => ⟨S17328x85, .i32⟩
  | .hbm, ⟨6, _⟩ => ⟨S17328x85, .i32⟩
  | .hbm, ⟨7, _⟩ => ⟨S_, .i32⟩
  | .hbm, ⟨8, _⟩ => ⟨S17328x85, .i32⟩
  | .hbm, ⟨9, _⟩ => ⟨S17328x85, .i32⟩
  | .hbm, ⟨10, _⟩ => ⟨S17328x85, .f32⟩
  | .hbm, ⟨11, _⟩ => ⟨S_, .f32⟩
  | .hbm, ⟨12, _⟩ => ⟨S17328x85, .f32⟩
  | .hbm, ⟨13, _⟩ => ⟨S17328x85, .f32⟩
  | .hbm, ⟨14, _⟩ => ⟨S_, .i32⟩
  | .hbm, ⟨15, _⟩ => ⟨S17328x85, .i32⟩
  | .hbm, ⟨16, _⟩ => ⟨S17328x85, .i32⟩
  | .hbm, ⟨17, _⟩ => ⟨S17328x85, .f32⟩
  | .hbm, ⟨18, _⟩ => ⟨S_, .f32⟩
  | .hbm, ⟨19, _⟩ => ⟨S17328x85, .f32⟩
  | .hbm, ⟨20, _⟩ => ⟨S17328x85, .f32⟩
  | .hbm, ⟨21, _⟩ => ⟨S_, .i32⟩
  | .hbm, ⟨22, _⟩ => ⟨S17328x85, .i32⟩
  | .hbm, ⟨23, _⟩ => ⟨S17328x85, .i1⟩
  | .hbm, ⟨24, _⟩ => ⟨S_, .i32⟩
  | .hbm, ⟨25, _⟩ => ⟨S17328x85, .i32⟩
  | .hbm, ⟨26, _⟩ => ⟨S17328x85, .i1⟩
  | .hbm, ⟨27, _⟩ => ⟨S_, .f32⟩
  | .hbm, ⟨28, _⟩ => ⟨S_, .f32⟩
  | .hbm, ⟨29, _⟩ => ⟨S17328x85, .f32⟩
  | .hbm, ⟨30, _⟩ => ⟨S17328x85, .f32⟩
  | .hbm, ⟨31, _⟩ => ⟨S17328x85, .f32⟩
  | .hbm, ⟨32, _⟩ => ⟨S32x255x5776, .f32⟩
  | .hbm, ⟨33, _⟩ => ⟨S16x255x5776, .f32⟩
  | .hbm, ⟨34, _⟩ => ⟨S16x5776x255, .f32⟩
  | .hbm, ⟨35, _⟩ => ⟨S16x255x5776, .f32⟩
  | .hbm, ⟨36, _⟩ => ⟨S16x5776x255, .f32⟩
  | .hbm, ⟨37, _⟩ => ⟨S32x17328x85, .f32⟩
  | .hbm, ⟨38, _⟩ => ⟨S32x17328x85, .f32⟩
  | .local _ .vmem, ⟨0, _⟩ => ⟨S1x5776x255, .f32⟩
  | .local _ .vmem, ⟨1, _⟩ => ⟨S1x5776x255, .f32⟩
  | .local _ .vmem, ⟨2, _⟩ => ⟨S17328x85, .f32⟩
  | .local _ .vmem, ⟨3, _⟩ => ⟨S3x1x85, .f32⟩
  | .local _ .vmem, ⟨4, _⟩ => ⟨S1x17328x85, .f32⟩
  | .local _ .vmem, ⟨5, _⟩ => ⟨S1x17328x85, .f32⟩
  | .local _ .vmem, ⟨6, _⟩ => ⟨S1x5776x255, .f32⟩
  | .local _ .vmem, ⟨7, _⟩ => ⟨S1x5776x255, .f32⟩
  | .local _ .vmem, ⟨8, _⟩ => ⟨S17328x85, .f32⟩
  | .local _ .vmem, ⟨9, _⟩ => ⟨S3x1x85, .f32⟩
  | .local _ .vmem, ⟨10, _⟩ => ⟨S1x17328x85, .f32⟩
  | .local _ .vmem, ⟨11, _⟩ => ⟨S1x17328x85, .f32⟩
  | _, _ => ⟨S32x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5776x255 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17328x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x17328x85 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S1x5776x255 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S17328x85 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x1x85 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x17328x85 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S32x255x76x76 : Shape := ⟨4, ![32, 255, 76, 76]⟩
abbrev S3x2 : Shape := ⟨2, ![3, 2]⟩
abbrev S4 : Shape := ⟨1, ![4]⟩
abbrev S32x3x85x76x76 : Shape := ⟨5, ![32, 3, 85, 76, 76]⟩
abbrev S32x3x76x76x85 : Shape := ⟨5, ![32, 3, 76, 76, 85]⟩
abbrev S32x3x76x76x1 : Shape := ⟨5, ![32, 3, 76, 76, 1]⟩
abbrev S32x3x76x76 : Shape := ⟨4, ![32, 3, 76, 76]⟩
abbrev S_ : Shape := ⟨0, ![]⟩
abbrev S32x3x76x76x80 : Shape := ⟨5, ![32, 3, 76, 76, 80]⟩
abbrev S76 : Shape := ⟨1, ![76]⟩
abbrev S1x1x1x76 : Shape := ⟨4, ![1, 1, 1, 76]⟩
abbrev S1x1x76x1 : Shape := ⟨4, ![1, 1, 76, 1]⟩
abbrev S3x1 : Shape := ⟨2, ![3, 1]⟩
abbrev S3 : Shape := ⟨1, ![3]⟩
abbrev S1x3x1x1 : Shape := ⟨4, ![1, 3, 1, 1]⟩
abbrev S32x3x76x76x4 : Shape := ⟨5, ![32, 3, 76, 76, 4]⟩
abbrev S32x17328x4 : Shape := ⟨3, ![32, 17328, 4]⟩
abbrev S1x1x4 : Shape := ⟨3, ![1, 1, 4]⟩
abbrev S32x17328x1 : Shape := ⟨3, ![32, 17328, 1]⟩
abbrev S32x17328x80 : Shape := ⟨3, ![32, 17328, 80]⟩
abbrev S32x17328x85 : Shape := ⟨3, ![32, 17328, 85]⟩

abbrev nBuf : Space → Nat
  | .hbm => 80
  | .vmem => 0
  | .smem => 0
  | _ => 0

abbrev bufTy : (tb : Table) → Fin (tcTables nBuf tb) → BufTy
  | .hbm, ⟨0, _⟩ => ⟨S32x255x76x76, .f32⟩
  | .hbm, ⟨1, _⟩ => ⟨S3x2, .f32⟩
  | .hbm, ⟨2, _⟩ => ⟨S4, .f32⟩
  | .hbm, ⟨3, _⟩ => ⟨S32x3x85x76x76, .f32⟩
  | .hbm, ⟨4, _⟩ => ⟨S32x3x76x76x85, .f32⟩
  | .hbm, ⟨5, _⟩ => ⟨S32x3x76x76x1, .f32⟩
  | .hbm, ⟨6, _⟩ => ⟨S32x3x76x76, .f32⟩
  | .hbm, ⟨7, _⟩ => ⟨S32x3x76x76, .f32⟩
  | .hbm, ⟨8, _⟩ => ⟨S32x3x76x76, .f32⟩
  | .hbm, ⟨9, _⟩ => ⟨S_, .f32⟩
  | .hbm, ⟨10, _⟩ => ⟨S32x3x76x76, .f32⟩
  | .hbm, ⟨11, _⟩ => ⟨S32x3x76x76, .f32⟩
  | .hbm, ⟨12, _⟩ => ⟨S_, .f32⟩
  | .hbm, ⟨13, _⟩ => ⟨S32x3x76x76, .f32⟩
  | .hbm, ⟨14, _⟩ => ⟨S32x3x76x76, .f32⟩
  | .hbm, ⟨15, _⟩ => ⟨S32x3x76x76x1, .f32⟩
  | .hbm, ⟨16, _⟩ => ⟨S32x3x76x76, .f32⟩
  | .hbm, ⟨17, _⟩ => ⟨S32x3x76x76, .f32⟩
  | .hbm, ⟨18, _⟩ => ⟨S32x3x76x76, .f32⟩
  | .hbm, ⟨19, _⟩ => ⟨S_, .f32⟩
  | .hbm, ⟨20, _⟩ => ⟨S32x3x76x76, .f32⟩
  | .hbm, ⟨21, _⟩ => ⟨S32x3x76x76, .f32⟩
  | .hbm, ⟨22, _⟩ => ⟨S_, .f32⟩
  | .hbm, ⟨23, _⟩ => ⟨S32x3x76x76, .f32⟩
  | .hbm, ⟨24, _⟩ => ⟨S32x3x76x76, .f32⟩
  | .hbm, ⟨25, _⟩ => ⟨S32x3x76x76x1, .f32⟩
  | .hbm, ⟨26, _⟩ => ⟨S32x3x76x76, .f32⟩
  | .hbm, ⟨27, _⟩ => ⟨S32x3x76x76x1, .f32⟩
  | .hbm, ⟨28, _⟩ => ⟨S32x3x76x76, .f32⟩
  | .hbm, ⟨29, _⟩ => ⟨S32x3x76x76x1, .f32⟩
  | .hbm, ⟨30, _⟩ => ⟨S32x3x76x76, .f32⟩
  | .hbm, ⟨31, _⟩ => ⟨S32x3x76x76, .f32⟩
  | .hbm, ⟨32, _⟩ => ⟨S32x3x76x76, .f32⟩
  | .hbm, ⟨33, _⟩ => ⟨S_, .f32⟩
  | .hbm, ⟨34, _⟩ => ⟨S32x3x76x76, .f32⟩
  | .hbm, ⟨35, _⟩ => ⟨S32x3x76x76, .f32⟩
  | .hbm, ⟨36, _⟩ => ⟨S_, .f32⟩
  | .hbm, ⟨37, _⟩ => ⟨S32x3x76x76, .f32⟩
  | .hbm, ⟨38, _⟩ => ⟨S32x3x76x76, .f32⟩
  | .hbm, ⟨39, _⟩ => ⟨S32x3x76x76x80, .f32⟩
  | .hbm, ⟨40, _⟩ => ⟨S32x3x76x76x80, .f32⟩
  | .hbm, ⟨41, _⟩ => ⟨S32x3x76x76x80, .f32⟩
  | .hbm, ⟨42, _⟩ => ⟨S_, .f32⟩
  | .hbm, ⟨43, _⟩ => ⟨S32x3x76x76x80, .f32⟩
  | .hbm, ⟨44, _⟩ => ⟨S32x3x76x76x80, .f32⟩
  | .hbm, ⟨45, _⟩ => ⟨S_, .f32⟩
  | .hbm, ⟨46, _⟩ => ⟨S32x3x76x76x80, .f32⟩
  | .hbm, ⟨47, _⟩ => ⟨S32x3x76x76x80, .f32⟩
  | .hbm, ⟨48, _⟩ => ⟨S76, .f32⟩
  | .hbm, ⟨49, _⟩ => ⟨S1x1x1x76, .f32⟩
  | .hbm, ⟨50, _⟩ => ⟨S32x3x76x76, .f32⟩
  | .hbm, ⟨51, _⟩ => ⟨S76, .f32⟩
  | .hbm, ⟨52, _⟩ => ⟨S1x1x76x1, .f32⟩
  | .hbm, ⟨53, _⟩ => ⟨S32x3x76x76, .f32⟩
  | .hbm, ⟨54, _⟩ => ⟨S3x1, .f32⟩
  | .hbm, ⟨55, _⟩ => ⟨S3, .f32⟩
  | .hbm, ⟨56, _⟩ => ⟨S1x3x1x1, .f32⟩
  | .hbm, ⟨57, _⟩ => ⟨S32x3x76x76, .f32⟩
  | .hbm, ⟨58, _⟩ => ⟨S3x1, .f32⟩
  | .hbm, ⟨59, _⟩ => ⟨S3, .f32⟩
  | .hbm, ⟨60, _⟩ => ⟨S1x3x1x1, .f32⟩
  | .hbm, ⟨61, _⟩ => ⟨S32x3x76x76, .f32⟩
  | .hbm, ⟨62, _⟩ => ⟨S32x3x76x76, .f32⟩
  | .hbm, ⟨63, _⟩ => ⟨S32x3x76x76, .f32⟩
  | .hbm, ⟨64, _⟩ => ⟨S32x3x76x76, .f32⟩
  | .hbm, ⟨65, _⟩ => ⟨S32x3x76x76, .f32⟩
  | .hbm, ⟨66, _⟩ => ⟨S32x3x76x76, .f32⟩
  | .hbm, ⟨67, _⟩ => ⟨S32x3x76x76, .f32⟩
  | .hbm, ⟨68, _⟩ => ⟨S32x3x76x76x1, .f32⟩
  | .hbm, ⟨69, _⟩ => ⟨S32x3x76x76x1, .f32⟩
  | .hbm, ⟨70, _⟩ => ⟨S32x3x76x76x1, .f32⟩
  | .hbm, ⟨71, _⟩ => ⟨S32x3x76x76x1, .f32⟩
  | .hbm, ⟨72, _⟩ => ⟨S32x3x76x76x4, .f32⟩
  | .hbm, ⟨73, _⟩ => ⟨S32x17328x4, .f32⟩
  | .hbm, ⟨74, _⟩ => ⟨S1x1x4, .f32⟩
  | .hbm, ⟨75, _⟩ => ⟨S32x17328x4, .f32⟩
  | .hbm, ⟨76, _⟩ => ⟨S32x17328x4, .f32⟩
  | .hbm, ⟨77, _⟩ => ⟨S32x17328x1, .f32⟩
  | .hbm, ⟨78, _⟩ => ⟨S32x17328x80, .f32⟩
  | .hbm, ⟨79, _⟩ => ⟨S32x17328x85, .f32⟩
  | _, _ => ⟨S32x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_cst_8 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩

abbrev nD : Nat := 1
abbrev τ : Topo := Topo.v7x

variable {F : FTy → Type} [FloatOps F]
-- ==== Proof.Block.lean ====
/-
  What one block of the kernel holds after the body has run, element by element.

  A block is the decoded output of one image: 17328 rows (three anchors of 5776 cells each) of 85 attributes. The body
  writes it in three stores, one per anchor; each store is the same arithmetic over a different third of the block's
  inputs. `decoded` names that arithmetic at one element, `blockVal_of_store` reads a store by it, and `block0` and
  `block1` put the three stores together for the two kernel calls.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-- One output element of the kernel: attribute `l` of a cell whose raw value is `x`, scaled by `μ` and shifted by
    `α`. The widths and heights (attributes 2 and 3) are exponentials, everything else a logistic written with the
    hyperbolic tangent. -/
def decoded (l : ℕ) (x μ α : EReal) : EReal :=
  (if l = 2 ∨ l = 3 then Ideal.exp x
    else Ideal.ofBits .f32 0x3F000000#32 * Ideal.tanh (Ideal.ofBits .f32 0x3F000000#32 * x)
      + Ideal.ofBits .f32 0x3F000000#32) * μ + α

/-- The kernel's lane mask, at lane `l`: set exactly on the lanes 2 and 3. -/
theorem mask_at : ∀ l : Fin 85,
    IntOp.ori (IntOp.cmpi .eq (BitVec.ofNat 32 l.val) 2#32) (IntOp.cmpi .eq (BitVec.ofNat 32 l.val) 3#32)
      = BitVec.ofBool (decide (l.val = 2 ∨ l.val = 3)) := by
  decide +kernel

/-- A choice between the two activations by the lane mask is the choice in `decoded`. -/
theorem select_mask (l : Fin 85) (u v : EReal) :
    Scalar.select (BitVec.ofBool (decide (l.val = 2 ∨ l.val = 3))) u v = if l.val = 2 ∨ l.val = 3 then u else v := by
  by_cases h : l.val = 2 ∨ l.val = 3 <;> simp [Scalar.select, h]

variable (x0 : Vec Ideal S1x5776x255 .f32) (x1 : Vec Ideal S17328x85 .f32) (x2 : Vec Ideal S3x1x85 .f32)

/-- Row `r` of the output belongs to anchor `r / 5776`, -/
def anchorOf (r : Fin 17328) : Fin 3 := ⟨r.val / 5776, by omega⟩
/-- and to cell `r % 5776` of that anchor's grid, -/
def cellOf (r : Fin 17328) : Fin 5776 := ⟨r.val % 5776, by omega⟩
/-- whose attribute `l` is this channel of the raw prediction. -/
def chanOf (r : Fin 17328) (l : Fin 85) : Fin 255 := ⟨85 * (r.val / 5776) + l.val, by omega⟩

/-- A decoded block at row `r` and attribute `l`, from the raw image, the shifts and the scales. -/
def blockVal (r : Fin 17328) (l : Fin 85) : EReal :=
  decoded l.val (x0 (ix3 0 (cellOf r) (chanOf r l))) (x2 (ix3 (anchorOf r) 0 l)) (x1 (ix2 r l))

/-- What a store's arithmetic gives at its own coordinates is the decoded block at the row and attribute the store
    puts it: cell `p` of the anchor `a` that starts at row `5776 * a` and at channel `85 * a`. -/
theorem blockVal_of_store {r : Fin 17328} {l : Fin 85} (a : Fin 3) (p : Fin 5776) (k : Fin 255) (r' : Fin 17328)
    (l' : Fin 85) (hr : r.val = 5776 * a.val + p.val) (hl : l.val = l'.val) (hk : k.val = 85 * a.val + l'.val)
    (hr' : r'.val = 5776 * a.val + p.val) :
    Scalar.select (IntOp.ori (IntOp.cmpi .eq (BitVec.ofNat 32 l'.val) 2#32)
          (IntOp.cmpi .eq (BitVec.ofNat 32 l'.val) 3#32))
        (Ideal.exp (x0 (ix3 0 p k)))
        (Ideal.ofBits .f32 0x3F000000#32 * Ideal.tanh (Ideal.ofBits .f32 0x3F000000#32 * x0 (ix3 0 p k))
          + Ideal.ofBits .f32 0x3F000000#32) * x2 (ix3 a 0 l') + x1 (ix2 r' l')
      = blockVal x0 x1 x2 r l := by
  obtain rfl : l = l' := Fin.ext hl
  obtain rfl : r = r' := Fin.ext (hr.trans hr'.symm)
  have ha : anchorOf r = a := Fin.ext (by simp only [anchorOf]; omega)
  have hp : cellOf r = p := Fin.ext (by simp only [cellOf]; omega)
  have hc : chanOf r l = k := Fin.ext (by simp only [chanOf]; omega)
  rw [mask_at, select_mask]
  unfold blockVal decoded
  rw [ha, hp, hc]

/-- The first call's block after the body, element by element: its three stores, each where it is put. -/
theorem block0 (y : S1x17328x85.Idx) : out0_3 (F := Ideal) x0 x1 x2 y = blockVal x0 x1 x2 (y 1) (y 2) := by
  canon_tiles x h
  all_goals
    idx_vars x
    unfold_payloads
    pointwise
  · exact blockVal_of_store _ _ _ 2 _ _ _ _ h1 h2 rfl rfl
  · exact blockVal_of_store _ _ _ 1 _ _ _ _ h1 h2 rfl rfl
  · refine blockVal_of_store _ _ _ 0 _ _ _ _ ?_ h2 ?_ ?_ <;> simp [h1]

variable (V : (c : Dev nD) → (b : Ref sig .tc) → Buf (Elt Ideal) ((c : Thread nD τ).loc b))

/-- The second call's block after the body, element by element: the same three stores. -/
theorem block1 (c : Dev nD) (t : Fin cfg1.N) (y : S1x17328x85.Idx) :
    outsAt1 V c t y = blockVal (iblk1 V c 0 t) (iblk1 V c 1 t) (iblk1 V c 2 t) (y 1) (y 2) := by
  unfold outsAt1 out1_A_3
  rw [View.read_writes_eq_canon _ _ _ (cover1_A_3 c _ _ _ _ _ _ _ _ _ _ _ _)]
  unfold kernelRun1_A
  dsimp only
  sl_unfold_words
  simp only [View.readAt_eq_ld, Memref.IsWhole.read_unread]
  exact block0 (iblk1 V c 0 t) (iblk1 V c 1 t) (iblk1 V c 2 t) y

end Cert.Proof

end
-- ==== Proof.Array.lean ====
/-
  What each of the two kernel calls leaves in its result array.

  Each call visits 16 images. The first writes the blocks of the images 0 to 15 of a fresh array; the second is given
  that array and writes the blocks of the images 16 to 31, leaving the others as they are. `arrayVal` names an element
  of a written block by the call's operands; it is the same for both calls.
-/
module

public import proofs.«01_k».proof.Proof.Block

@[expose] public section

set_option maxRecDepth 16384

noncomputable section

namespace Cert.Proof

open Idealize.ShloMosaic Idealize.ShloMosaic.TcCoe Idealize.SL.Sem
open Cert.KernelIdeal Cert.KernelIdeal.Gen

/-- The element that a call writes for image `b` of its 16, at row `r` and attribute `l`. -/
def arrayVal (X : Vec Ideal S16x5776x255 .f32) (A : Vec Ideal S17328x85 .f32) (M : Vec Ideal S3x1x85 .f32)
    (b : Fin 16) (r : Fin 17328) (l : Fin 85) : EReal :=
  decoded l.val (X (ix3 b (cellOf r) (chanOf r l))) (M (ix3 (anchorOf r) 0 l)) (A (ix2 r l))

/-- An image of the batch, as one of the 16 of the half it lies in. -/
def halfOf (b : Fin 32) : Fin 16 := ⟨b.val % 16, by omega⟩

/-- A decoded block is the written element of its image, if the block's inputs are the image's part of the operands. -/
theorem blockVal_eq_arrayVal {X : Vec Ideal S16x5776x255 .f32} {A : Vec Ideal S17328x85 .f32} {M : Vec Ideal S3x1x85 .f32}
    {x0 : Vec Ideal S1x5776x255 .f32} {x1 : Vec Ideal S17328x85 .f32} {x2 : Vec Ideal S3x1x85 .f32} {b : Fin 16}
    {r r' : Fin 17328} {l l' : Fin 85} (h0 : ∀ p k, x0 (ix3 0 p k) = X (ix3 b p k)) (h1 : ∀ r l, x1 (ix2 r l) = A (ix2 r l))
    (h2 : ∀ a l, x2 (ix3 a 0 l) = M (ix3 a 0 l)) (hr : r'.val = r.val) (hl : l'.val = l.val) :
    blockVal x0 x1 x2 r l = arrayVal X A M b r' l' := by
  obtain rfl : r' = r := Fin.ext hr
  obtain rfl : l' = l := Fin.ext hl
  unfold blockVal arrayVal
  rw [h0, h1, h2]

variable (V : (c : Dev nD) → (b : Ref sig .tc) → Buf (Elt Ideal) ((c : Thread nD τ).loc b))

/-- Where the windows of the first call stand at a grid point. -/
theorem index0 : ∀ t : Fin cfg0.N, win0_0.index t = ![t.val, 0, 0] ∧ win0_1.index t = ![0, 0]
    ∧ win0_2.index t = ![0, 0, 0] ∧ win0_3.index t = ![t.val, 0, 0] := by decide +kernel

/-- Where the windows of the second call stand at a grid point. -/
theorem index1 : ∀ t : Fin cfg1.N, win1_0.index t = ![t.val, 0, 0] ∧ win1_1.index t = ![0, 0]
    ∧ win1_2.index t = ![0, 0, 0] ∧ win1_3.index t = ![t.val + 16, 0, 0] := by decide +kernel

/-- The first call's array: the images below 16 decoded from its operands, the rest as the call found it. -/
theorem array0 (c : Dev nD) : (dat0 V c).arrAt 3 cfg0.N = fun i : S32x17328x85.Idx =>
    if (i 0).val < 16 then
      arrayVal (V c main_v22) (V c main_v19) (V c main_cst) (halfOf (i 0)) (i 1) (i 2)
    else V c main_v25 i := by
  refine (dat0 V c).arrAt_eq_of_coversWhere 3 _ (fun β => β (0 : Fin 3) < 16) (by decide +kernel)
    (fun t hf y => ?_) (fun j => by blk_simp [Pipeline.Window.cell_apply]; omega)
  have ht : t.val < 16 := t.isLt
  have hy : (y 0).val < 1 := (y 0).isLt
  blk_simp
  rw [after0_3, block0]
  refine blockVal_eq_arrayVal (fun p k => ?_) (fun r l => ?_) (fun a l => ?_) ?_ ?_
  · blk_ext [iblk0, halfOf, index0 t]
  · blk_ext [iblk0, index0 t]
  · blk_ext [iblk0, index0 t]
  · blk_simp [index0 t]
  · blk_simp [index0 t]

/-- The second call's array: the images from 16 on decoded from its operands, the rest as the call found it. -/
theorem array1 (c : Dev nD) : (dat1 V c).arrAt 3 cfg1.N = fun i : S32x17328x85.Idx =>
    if 16 ≤ (i 0).val then
      arrayVal (V c main_v24) (V c main_v19) (V c main_cst) (halfOf (i 0)) (i 1) (i 2)
    else V c main_v26 i := by
  refine (dat1 V c).arrAt_eq_of_coversWhere 3 _ (fun β => 16 ≤ β (0 : Fin 3)) (by decide +kernel)
    (fun t hf y => ?_) (fun j => by blk_simp [Pipeline.Window.cell_apply]; omega)
  have ht : t.val < 16 := t.isLt
  have hy : (y 0).val < 1 := (y 0).isLt
  blk_simp
  rw [after1_3, block1]
  refine blockVal_eq_arrayVal (fun p k => ?_) (fun r l => ?_) (fun a l => ?_) ?_ ?_
  · blk_ext [iblk1, halfOf, index1 t]
  · blk_ext [iblk1, index1 t]
  · blk_ext [iblk1, index1 t]
  · blk_simp [index1 t]
  · blk_simp [index1 t]

end Cert.Proof

end
-- ==== Proof.Run.lean ====
/-
  The run of the kernel program, with its result array read back.

  The program's own record of its run keeps every buffer's final contents (`W7`); the launch is stated here once more so
  that the result array is among what it promises. `result` then says what that array holds in terms of the two calls'
  operands: below image 16 the first call's elements, from image 16 on the second call's.
-/
module

public import proofs.«01_k».proof.Proof.Array

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The two pipelines' launch contents. -/
abbrev launchOf : UR sig nD τ :=
  initOf (Pipeline.cells cfgs cellOf_inj) (Pipeline.launchToks cfgs cellOf_inj)

set_option backward.isDefEq.respectTransparency.types false in
/-- Every run of the program ends with the result array as the program's record of its run has it, and with the argument
    as it was. -/
theorem run_kernel : θ_run defs (onTc (τ := τ) (main (F := F))) ⟨m, fun _ => 0, ρ⟩ (fun r => ∀ c : Dev nD,
      r.2.mem ((c.tc : Thread nD τ).loc main_v26) = W7 m ρ c main_v26
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main
    (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchOf)
    (hu₀ := by
      iintro Hu
      imodintro
      isplitl [Hu]
      · iapply (show (ownU launchOf : sProp 𝕄) ⊢ BI.own (emb₁ launchOf) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := by refine ⟨?_, ?_, ?_, ?_, ?_, ?_, ?_, ?_⟩ <;> exact fun _ => .rfl)
    (hinit := by
      refine Pipeline.initEach L lv fun c => ?_
      rw [show unscopedBufs c (fun b => m ((c : Thread nD τ).loc b))
          = StableHlo.held (c : Thread nD τ) (Pipeline.ucRefs τ sig) (W0 m ρ c) from
        Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W7 m ρ c b)
    (hfin := fun c s' => by
      iintro ⟨⟨Hh, -⟩, HS⟩
      unfold StableHlo.held
      imodintro
      iapply (pointsTo_read_all (Pipeline.ucRefs τ sig) (fun b => (((c : Thread nD τ)).1, b)) (W7 m ρ c) s')
      isplitl [Hh] <;> iassumption)
    (hQ := fun s h _ c => ⟨h c _ (mem_uc main_v26 (by decide)),
      (h c _ (mem_uc main_arg0 (by decide))).trans (W7_main_arg0 m ρ c)⟩)

end Cert.Proof

namespace Cert.Proof

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The second call finds the operand `r` as the first call found it: nothing in between writes it. -/
theorem kept (c : Dev nD) (r : Ref sig .tc) (h1 : r ∉ hostOps1_W)
    (h : ∀ w : Fin cfg0.W, Pipeline.arrRef spec0 w = r → (cfg0.win w).isOut = false) :
    V6 m ρ c r = V4 m ρ c r :=
  (W6_of m ρ c r h1).trans (W5_of m ρ c r h)

/-- The second call's result array starts as a copy of the first call's. -/
theorem copied (c : Dev nD) : V6 m ρ c main_v26 = W5 m ρ c main_v25 := by
  unfold V6 W6
  after_results
  rfl

/-- The result array, element by element, in terms of the operands of the two calls. -/
theorem result (c : Dev nD) (b : Fin 32) (r : Fin 17328) (l : Fin 85) :
    W7 m ρ c main_v26 (ix3 b r l)
      = if b.val < 16 then
          arrayVal (V4 m ρ c main_v22) (V4 m ρ c main_v19) (V4 m ρ c main_cst) (halfOf b) r l
        else arrayVal (V4 m ρ c main_v24) (V4 m ρ c main_v19) (V4 m ρ c main_cst) (halfOf b) r l := by
  have h1 := (congrFun (W7_arr m ρ c 3) (ix3 b r l)).trans (congrFun (array1 (V6 m ρ) c) (ix3 b r l))
  have h0 := (congrFun (W5_arr m ρ c 3) (ix3 b r l)).trans (congrFun (array0 (V4 m ρ) c) (ix3 b r l))
  by_cases hb : b.val < 16
  · rw [if_pos hb]
    exact (h1.trans (if_neg (Nat.not_le.2 hb))).trans
      ((congrFun (copied m ρ c) (ix3 b r l)).trans (h0.trans (if_pos hb)))
  · rw [if_neg hb, ← kept m ρ c main_v24 (by decide) (by decide +kernel),
      ← kept m ρ c main_v19 (by decide) (by decide +kernel), ← kept m ρ c main_cst (by decide) (by decide +kernel)]
    exact h1.trans (if_pos (Nat.not_lt.1 hb))

end Cert.Proof

end
-- ==== Proof.Host.lean ====
/-
  The operands that the host operations make for the two calls, element by element.

  The raw predictions are flattened to 255 channels of 5776 cells, cut into the two halves of the batch and turned so
  that a cell's channels lie side by side. The shifts are 8 times a cell's column for the attribute 0, 8 times its row
  for the attribute 1, and zero otherwise.
-/
module

public import proofs.«01_k».proof.Proof.Run
public import Idealize.ShloMosaic.Lib.Affine

@[expose] public section

set_option maxRecDepth 16384

noncomputable section

namespace Cert.Proof

open Idealize.ShloMosaic Idealize.ShloMosaic.TcCoe Idealize.SL.Sem
open Cert.KernelIdeal Cert.KernelIdeal.Gen

/-! ## Arithmetic of the row numbers -/

/-- A small natural as the extended real that the conversion of its machine word gives. -/
def wordVal (n : ℕ) : EReal := (((BitVec.ofNat 32 n).toInt : ℝ) : EReal)

/-- A small number survives being made a word. -/
theorem word_toNat {n : ℕ} (hn : n < 2 ^ 32) : (BitVec.ofNat 32 n).toNat = n := by
  rw [BitVec.toNat_ofNat, Nat.mod_eq_of_lt hn]

/-- The remainder of small words is the word of the remainder. -/
theorem rem_word (n k : ℕ) (hn : n < 2 ^ 31) (hk : 0 < k) (hk' : k < 2 ^ 31) :
    IntOp.remsi .host (BitVec.ofNat 32 n) (BitVec.ofNat 32 k) = BitVec.ofNat 32 (n % k) := by
  have e : (BitVec.ofNat 32 n).toNat = n := word_toNat (by omega)
  have hlt : n % k < 2 ^ 32 := lt_of_le_of_lt (Nat.mod_le n k) (by omega)
  refine BitVec.eq_of_toNat_eq ?_
  rw [IntOp.toNat_remsi .host (by omega) k hk (by omega), e, word_toNat hlt]

/-- The quotient of small words is the word of the quotient. -/
theorem div_word (n k : ℕ) (hn : n < 2 ^ 31) (hk : 0 < k) (hk' : k < 2 ^ 31) :
    IntOp.divsi .host (BitVec.ofNat 32 n) (BitVec.ofNat 32 k) = BitVec.ofNat 32 (n / k) := by
  have e : (BitVec.ofNat 32 n).toNat = n := word_toNat (by omega)
  have e' : (BitVec.ofNat 32 k).toNat = k := word_toNat (by omega)
  have hlt : n / k < 2 ^ 32 := lt_of_le_of_lt (Nat.div_le_self n k) (by omega)
  have hpos : 0 < (BitVec.ofNat 32 k).toInt := by rw [BitVec.toInt_eq_toNat_of_lt (by omega)]; omega
  have hm : (BitVec.ofNat 32 n).msb = false := by rw [BitVec.msb_eq_false_iff_two_mul_lt]; omega
  have hm' : (BitVec.ofNat 32 k).msb = false := by rw [BitVec.msb_eq_false_iff_two_mul_lt]; omega
  unfold IntOp.divsi
  rw [if_neg (IntOp.not_corner_of_pos hpos), BitVec.sdiv_eq, hm, hm']
  refine BitVec.eq_of_toNat_eq ?_
  show (BitVec.ofNat 32 n / BitVec.ofNat 32 k).toNat = _
  rw [BitVec.toNat_udiv, e, e', word_toNat hlt]

/-- A choice by whether a lane is a given one. -/
theorem select_lane {l k : ℕ} (hl : l < 2 ^ 31) (hk : k < 2 ^ 31) (u v : EReal) :
    Scalar.select (IntOp.cmpi .eq (BitVec.ofNat 32 l) (BitVec.ofNat 32 k)) u v = if l = k then u else v := by
  have h : BitVec.ofNat 32 l = BitVec.ofNat 32 k ↔ l = k := by
    rw [← BitVec.toNat_inj, word_toNat (by omega), word_toNat (by omega)]
  by_cases hlk : l = k
  · subst hlk; simp [Scalar.select, IntOp.cmpi]
  · have hne : (BitVec.ofNat 32 l == BitVec.ofNat 32 k) = false := beq_eq_false_iff_ne.mpr (fun e => hlk (h.mp e))
    simp [Scalar.select, IntOp.cmpi, hne, hlk]

/-! ## The tables -/

/-- What is added to attribute `l` of row `r`: for the two centre coordinates the cell's place in the image. -/
def shift (r : Fin 17328) (l : Fin 85) : EReal :=
  if l.val = 0 then wordVal (r.val % 5776 % 76) * Ideal.ofBits .f32 0x41000000#32
  else if l.val = 1 then wordVal (r.val % 5776 / 76) * Ideal.ofBits .f32 0x41000000#32 else 0

/-- The bits of what attribute `l` of anchor `a` is multiplied by. -/
def scaleBits (a : Fin 3) (l : Fin 85) : BitVec 32 :=
  if l.val < 2 then 0x41000000#32
  else if l.val = 2 then ![0x42E80000#32, 0x431C0000#32, 0x43BA8000#32] a
  else if l.val = 3 then ![0x42B40000#32, 0x43460000#32, 0x43A30000#32] a
  else 0x3F800000#32

/-- The table of shifts as the host operations build it: out of row and lane numbers. -/
def shiftTable : Vec Ideal S17328x85 .f32 :=
  let pos := Host.remsi (iotaInDim S17328x85 32 0) (broadcastInDim S17328x85 ![] bcast_S_S17328x85 (constantI S_ 32 5776#32))
  let side := broadcastInDim S17328x85 ![] bcast_S_S17328x85 (constantI S_ 32 76#32)
  let stride := broadcastInDim S17328x85 ![] bcast_S_S17328x85 (constant (F := Ideal) S_ .f32 0x41000000#32)
  let lane (k : BitVec 32) :=
    cmpi .eq (iotaInDim S17328x85 32 1) (broadcastInDim S17328x85 ![] bcast_S_S17328x85 (constantI S_ 32 k))
  select (lane 0#32) (mulf (sitofp .f32 (Host.remsi pos side)) stride)
    (select (lane 1#32) (mulf (sitofp .f32 (Host.divsi pos side)) stride)
      (broadcastInDim S17328x85 ![] bcast_S_S17328x85 (constant (F := Ideal) S_ .f32 0x00000000#32)))

/-- Read at an index it is `shift`: the words divide without a corner, their numbers being small. -/
theorem shiftTable_apply (r : Fin 17328) (l : Fin 85) : shiftTable (ix2 r l) = shift r l := by
  unfold shiftTable
  pointwise
  have hr := r.isLt
  have hl := l.isLt
  rw [rem_word r.val 5776 (by omega) (by decide) (by decide), rem_word _ 76 (by omega) (by decide) (by decide),
    div_word _ 76 (by omega) (by decide) (by decide), select_lane (k := 0) (by omega) (by decide),
    select_lane (k := 1) (by omega) (by decide)]
  rfl

/-- The printed table of scales. -/
theorem scale_bits : ∀ (a : Fin 3) (l : Fin 85), lit0 (S3x1x85.rowMajor (ix3 a 0 l)) = scaleBits a l := by
  decide +kernel

/-! ## The raw predictions -/

/-- The first half of the batch, flattened and turned, read at an index: image `b`, channel `k`, cell `p`. -/
theorem turned_first (X : Vec Ideal S32x255x76x76 .f32) (b : Fin 16) (p : Fin 5776) (k : Fin 255) :
    transpose S16x5776x255 [0, 2, 1]
        (extractStridedSlice S16x255x5776 ![0, 0, 0]
          (shapeCast S32x255x5776 X shapeCasts_S32x255x76x76_S32x255x5776) slices_S32x255x5776_S16x255x5776_0_0_0)
        transposes_S16x255x5776_S16x5776x255_0_2_1 (ix3 b p k)
      = X (ix4 ⟨b.val, by omega⟩ k ⟨p.val / 76, by omega⟩ ⟨p.val % 76, by omega⟩) := by
  pointwise

/-- The second half, likewise: image `16 + b`. -/
theorem turned_second (X : Vec Ideal S32x255x76x76 .f32) (b : Fin 16) (p : Fin 5776) (k : Fin 255) :
    transpose S16x5776x255 [0, 2, 1]
        (extractStridedSlice S16x255x5776 ![16, 0, 0]
          (shapeCast S32x255x5776 X shapeCasts_S32x255x76x76_S32x255x5776) slices_S32x255x5776_S16x255x5776_16_0_0)
        transposes_S16x255x5776_S16x5776x255_0_2_1 (ix3 b p k)
      = X (ix4 ⟨16 + b.val, by omega⟩ k ⟨p.val / 76, by omega⟩ ⟨p.val % 76, by omega⟩) := by
  pointwise

/-! ## What the calls find -/

variable (m : (ℓ : Loc nD τ sig) → Buf (Elt Ideal) ℓ) (ρ : Dev nD → PrngReg)

/-- The first call's images are the batch's images below 16, -/
theorem first_half (c : Dev nD) (b : Fin 16) (p : Fin 5776) (k : Fin 255) :
    V4 m ρ c main_v22 (ix3 b p k)
      = m ((c : Thread nD τ).loc main_arg0) (ix4 ⟨b.val, by omega⟩ k ⟨p.val / 76, by omega⟩ ⟨p.val % 76, by omega⟩) := by
  unfold_abbrev_sides
  after_results
  exact turned_first _ b p k

/-- the second call's the images from 16 on, -/
theorem second_half (c : Dev nD) (b : Fin 16) (p : Fin 5776) (k : Fin 255) :
    V4 m ρ c main_v24 (ix3 b p k)
      = m ((c : Thread nD τ).loc main_arg0) (ix4 ⟨16 + b.val, by omega⟩ k ⟨p.val / 76, by omega⟩ ⟨p.val % 76, by omega⟩) := by
  unfold_abbrev_sides
  after_results
  exact turned_second _ b p k

/-- both calls' shifts are `shift`, -/
theorem shifts (c : Dev nD) (r : Fin 17328) (l : Fin 85) : V4 m ρ c main_v19 (ix2 r l) = shift r l := by
  unfold_abbrev_sides
  after_results
  exact shiftTable_apply r l

/-- and both calls' scales have the bits `scaleBits`. -/
theorem scales (c : Dev nD) (a : Fin 3) (l : Fin 85) :
    V4 m ρ c main_cst (ix3 a 0 l) = Ideal.ofBits .f32 (scaleBits a l) := by
  unfold_abbrev_sides
  after_results
  exact congrArg (Ideal.ofBits .f32) (scale_bits a l)

end Cert.Proof

end
-- ==== Proof.Logistic.lean ====
/-
  The mathematics of one output element, over the extended reals.

  The kernel's activation is a logistic written with the hyperbolic tangent; the reference's is the logistic itself. The
  kernel multiplies by the stride and adds the shift; the reference adds the grid place and then multiplies by the
  stride. The widths and heights are scaled by the anchor in pixels in the kernel, by the anchor in cells and then by
  the stride in the reference.
-/
module

public import Idealize.ShloMosaic.Lib.Pointwise

@[expose] public section

noncomputable section

namespace Cert.Proof

open Idealize.ShloMosaic

/-- The half of the kernel's activation, -/
theorem bits_half : Ideal.ofBits .f32 0x3F000000#32 = ((1 / 2 : ℝ) : EReal) := by
  simp [Ideal.ofBits, Ideal.ieee, -EReal.coe_mul]; norm_num
/-- and the stride of the grid, as real numbers. -/
theorem bits_eight : Ideal.ofBits .f32 0x41000000#32 = ((8 : ℝ) : EReal) := by
  simp [Ideal.ofBits, Ideal.ieee, -EReal.coe_mul]; norm_num

/-- Half of a hyperbolic tangent at half the argument, moved up by a half, is the logistic: over the reals, -/
theorem half_tanh (x : ℝ) : 1 / 2 * Real.tanh (1 / 2 * x) + 1 / 2 = (1 + Real.exp (-x))⁻¹ := by
  have hp : 0 < Real.exp (1 / 2 * x) := Real.exp_pos _
  have e : Real.exp (-x) = (Real.exp (1 / 2 * x))⁻¹ * (Real.exp (1 / 2 * x))⁻¹ := by
    rw [← Real.exp_neg, ← Real.exp_add]; congr 1; ring
  rw [Real.tanh_eq, Real.exp_neg, e]
  field_simp
  ring

/-- and at the two infinities as well. -/
theorem half_tanh_eq_logistic (x : EReal) :
    ((1 / 2 : ℝ) : EReal) * Ideal.tanh (((1 / 2 : ℝ) : EReal) * x) + ((1 / 2 : ℝ) : EReal) = Ideal.logistic x := by
  have hpos : (0 : ℝ) < 1 / 2 := by norm_num
  induction x using EReal.rec with
  | bot =>
    rw [EReal.coe_mul_bot_of_pos hpos, Ideal.tanh_bot, Ideal.logistic_bot]
    rw [show (-1 : EReal) = ((-1 : ℝ) : EReal) from rfl, ← EReal.coe_mul, ← EReal.coe_add]
    norm_num
  | top =>
    rw [EReal.coe_mul_top_of_pos hpos, Ideal.tanh_top, Ideal.logistic_top]
    rw [show (1 : EReal) = ((1 : ℝ) : EReal) from rfl, ← EReal.coe_mul, ← EReal.coe_add]
    norm_num
  | coe r =>
    rw [← EReal.coe_mul, Ideal.tanh_coe, ← EReal.coe_mul, ← EReal.coe_add, Ideal.logistic_coe, half_tanh]

/-- A logistic is a real number, -/
theorem logistic_real (x : EReal) : ∃ s : ℝ, Ideal.logistic x = (s : EReal) := by
  induction x using EReal.rec with
  | bot => exact ⟨0, Ideal.logistic_bot⟩
  | top => exact ⟨1, Ideal.logistic_top⟩
  | coe r => exact ⟨_, Ideal.logistic_coe r⟩

/-- so a centre may be scaled before or after the grid place is added. -/
theorem centre_scaled (x : EReal) (g s : ℝ) :
    Ideal.logistic x * (s : EReal) + (g : EReal) * (s : EReal) = (Ideal.logistic x + (g : EReal)) * (s : EReal) := by
  obtain ⟨u, hu⟩ := logistic_real x
  rw [hu, ← EReal.coe_mul, ← EReal.coe_mul, ← EReal.coe_add, ← EReal.coe_add, ← EReal.coe_mul, add_mul]

/-- A size scaled by the anchor in pixels is the size scaled by the anchor in cells and then by the stride. -/
theorem size_scaled (e : EReal) {p a s : ℝ} (h : p = a * s) : e * (p : EReal) = e * (a : EReal) * (s : EReal) := by
  rw [h, EReal.coe_mul, mul_assoc]

end Cert.Proof

end
-- ==== Proof.Ref.lean ====
/-
  The reference's array, element by element.

  The reference turns the predictions so that the attributes come last, slices the attributes apart, works on each over
  the whole grid, and joins the pieces. Each piece is named and read at an index here; `reference_apply` puts them
  together.
-/
module

public import proofs.«01_k».proof.Proof.Host
public import proofs.«01_k».proof.Proof.Logistic
public import proofs.«01_k».proof.Proof.Gen.ReferenceIdeal.Run

@[expose] public section

set_option maxRecDepth 16384

noncomputable section

namespace Cert.Proof

open Idealize.ShloMosaic Idealize.ShloMosaic.TcCoe
open Cert.ReferenceIdeal Cert.ReferenceIdeal.Gen

/-- The raw predictions with the attributes last, read at an index. -/
theorem turned_apply (X : Vec Ideal S32x255x76x76 .f32) (b : Fin 32) (a : Fin 3) (i j : Fin 76) (l : Fin 85) :
    transpose S32x3x76x76x85 [0, 1, 3, 4, 2] (shapeCast S32x3x85x76x76 X shapeCasts_S32x255x76x76_S32x3x85x76x76)
        transposes_S32x3x85x76x76_S32x3x76x76x85_0_1_3_4_2 (ix5 b a i j l)
      = X (ix4 b ⟨85 * a.val + l.val, by omega⟩ i j) := by
  pointwise
  exact congrArg (fun k => X (ix4 b k i j)) (Fin.ext (by show a.val * 85 + l.val = 85 * a.val + l.val; omega))

/-- The result is three arrays side by side: attributes 0 to 3, attribute 4, and the attributes from 5 on. -/
theorem join3 (B : Vec Ideal S32x17328x4 .f32) (C : Vec Ideal S32x17328x1 .f32) (D : Vec Ideal S32x17328x80 .f32)
    (b : Fin 32) (r : Fin 17328) (l : Fin 85) :
    concatenate S32x17328x85 2 [⟨S32x17328x4, B⟩, ⟨S32x17328x1, C⟩, ⟨S32x17328x80, D⟩]
        concatenates_S32x17328x4_S32x17328x1_S32x17328x80_S32x17328x85_d2 (ix3 b r l)
      = if h : l.val < 4 then B (ix3 b r ⟨l.val, h⟩) else if l.val = 4 then C (ix3 b r 0)
        else D (ix3 b r ⟨l.val - 5, by omega⟩) := by
  pointwise
  by_cases h : l.val < 4
  · rw [dif_pos h, dif_pos h]
  · rw [dif_neg h, dif_neg h]
    by_cases h' : l.val = 4
    · rw [dif_pos (by omega), if_pos h']
      exact congrArg (fun k => C (ix3 b r k)) (Subsingleton.elim _ _)
    · rw [dif_neg (by omega), if_neg h']
      exact congrArg (fun k => D (ix3 b r k)) (Fin.ext (by show l.val - 4 - 1 = l.val - 5; omega))

/-- The boxes are four arrays stacked. -/
theorem join4 (A B C D : Vec Ideal S32x3x76x76x1 .f32) (b : Fin 32) (a : Fin 3) (i j : Fin 76) (l : Fin 4) :
    concatenate S32x3x76x76x4 4 [⟨S32x3x76x76x1, A⟩, ⟨S32x3x76x76x1, B⟩, ⟨S32x3x76x76x1, C⟩, ⟨S32x3x76x76x1, D⟩]
        concatenates_S32x3x76x76x1_S32x3x76x76x1_S32x3x76x76x1_S32x3x76x76x1_S32x3x76x76x4_d4 (ix5 b a i j l)
      = ![A, B, C, D] l (ix5 b a i j 0) := by
  fin_cases l <;> pointwise

/-- The reference's logistic of an array, as its operations spell it. -/
def logisticOf {s : Shape} (h : S_.BroadcastsInDim s ![]) (x : Vec Ideal s .f32) : Vec Ideal s .f32 :=
  Host.divf (broadcastInDim s ![] h (constant (F := Ideal) S_ .f32 0x3F800000#32))
    (addf (broadcastInDim s ![] h (constant (F := Ideal) S_ .f32 0x3F800000#32)) (Host.exp (Host.negf x)))

/-- It is the logistic, element by element. -/
theorem logisticOf_apply {s : Shape} (h : S_.BroadcastsInDim s ![]) (x : Vec Ideal s .f32) (i : s.Idx) :
    logisticOf h x i = Ideal.logistic (x i) := by
  show Ideal.div (Ideal.ofBits .f32 0x3F800000#32) (Ideal.ofBits .f32 0x3F800000#32 + Ideal.exp (-(x i))) = _
  rw [Ideal.ofBits_one_f32]
  rfl

section Pieces

variable (P : Vec Ideal S32x3x76x76x85 .f32) (b : Fin 32) (a : Fin 3) (i j : Fin 76)

/-- An attribute of every cell: the slice at `k`, its last axis dropped. -/
def channel (k : ℕ) (h : S32x3x76x76x85.Slices ![0, 0, 0, 0, k] S32x3x76x76x1) : Vec Ideal S32x3x76x76 .f32 :=
  shapeCast S32x3x76x76 (extractStridedSlice S32x3x76x76x1 ![0, 0, 0, 0, k] P h) shapeCasts_S32x3x76x76x1_S32x3x76x76

/-- Read at a cell, it is that cell's attribute `k`. -/
theorem channel_apply (k : ℕ) (hk : k < 85) (h : S32x3x76x76x85.Slices ![0, 0, 0, 0, k] S32x3x76x76x1) :
    channel P k h (ix4 b a i j) = P (ix5 b a i j ⟨k, hk⟩) := by
  unfold channel
  pointwise

/-- The numbers of the columns over the grid. -/
def columns : Vec Ideal S32x3x76x76 .f32 :=
  broadcastInDim S32x3x76x76 ![0, 1, 2, 3] bcast_S1x1x1x76_S32x3x76x76_0_1_2_3
    (shapeCast _ (sitofp (F := Ideal) .f32 (iotaInDim S76 32 0)) shapeCasts_S76_S1x1x1x76)
/-- The numbers of the rows over the grid. -/
def rows : Vec Ideal S32x3x76x76 .f32 :=
  broadcastInDim S32x3x76x76 ![0, 1, 2, 3] bcast_S1x1x76x1_S32x3x76x76_0_1_2_3
    (shapeCast _ (sitofp (F := Ideal) .f32 (iotaInDim S76 32 0)) shapeCasts_S76_S1x1x76x1)

/-- They are read at a cell by its column, -/
theorem columns_apply : columns (ix4 b a i j) = wordVal j.val := by
  unfold columns
  pointwise
  rfl

/-- and by its row. -/
theorem rows_apply : rows (ix4 b a i j) = wordVal i.val := by
  unfold rows
  pointwise
  rfl

/-- The bits of anchor `a`'s width (`k = 0`) and height (`k = 1`), in cells. -/
def anchorBits (a : Fin 3) (k : Fin 2) : BitVec 32 :=
  ![![0x41680000#32, 0x41340000#32], ![0x419C0000#32, 0x41C60000#32], ![0x423A8000#32, 0x42230000#32]] a k

/-- The printed table of anchors. -/
theorem anchor_bits : ∀ (a : Fin 3) (k : Fin 2), lit0 (S3x2.rowMajor (ix2 a k)) = anchorBits a k := by decide +kernel

/-- The anchors' widths (`k = 0`) and heights (`k = 1`), in cells, over the grid. -/
def anchors (k : ℕ) (h : S3x2.Slices ![0, k] S3x1) : Vec Ideal S32x3x76x76 .f32 :=
  broadcastInDim S32x3x76x76 ![0, 1, 2, 3] bcast_S1x3x1x1_S32x3x76x76_0_1_2_3
    (shapeCast _ (shapeCast _ (extractStridedSlice S3x1 ![0, k]
      (fun i => FloatOps.ofBits (F := Ideal) .f32 (lit0 (S3x2.rowMajor i))) h) shapeCasts_S3x1_S3) shapeCasts_S3_S1x3x1x1)

/-- They are read at a cell by its anchor. -/
theorem anchors_apply (k : ℕ) (hk : k < 2) (h : S3x2.Slices ![0, k] S3x1) :
    anchors k h (ix4 b a i j) = Ideal.ofBits .f32 (anchorBits a ⟨k, hk⟩) := by
  unfold anchors
  pointwise
  exact congrArg (Ideal.ofBits .f32) (anchor_bits a ⟨k, hk⟩)

/-- The classes are the attributes from 5 on. -/
theorem classSlice_apply (l : Fin 80) :
    extractStridedSlice S32x3x76x76x80 ![0, 0, 0, 0, 5] P slices_S32x3x76x76x85_S32x3x76x76x80_0_0_0_0_5 (ix5 b a i j l)
      = P (ix5 b a i j ⟨5 + l.val, by omega⟩) := by
  pointwise

/-- A centre coordinate: a channel's logistic plus a grid place. -/
theorem centre_apply (k : ℕ) (hk : k < 85) (h : S32x3x76x76x85.Slices ![0, 0, 0, 0, k] S32x3x76x76x1)
    (G : Vec Ideal S32x3x76x76 .f32) :
    broadcastInDim S32x3x76x76x1 ![0, 1, 2, 3] bcast_S32x3x76x76_S32x3x76x76x1_0_1_2_3
        (addf (F := Ideal) (φ := .f32) (logisticOf bcast_S_S32x3x76x76 (channel P k h)) G) (ix5 b a i j 0)
      = Ideal.logistic (P (ix5 b a i j ⟨k, hk⟩)) + G (ix4 b a i j) := by
  rw [← channel_apply P b a i j k hk h, ← logisticOf_apply bcast_S_S32x3x76x76]
  pointwise

/-- A side length: a channel's exponential times an anchor's. -/
theorem side_apply (k : ℕ) (hk : k < 85) (h : S32x3x76x76x85.Slices ![0, 0, 0, 0, k] S32x3x76x76x1)
    (G : Vec Ideal S32x3x76x76 .f32) :
    broadcastInDim S32x3x76x76x1 ![0, 1, 2, 3] bcast_S32x3x76x76_S32x3x76x76x1_0_1_2_3
        (mulf (F := Ideal) (φ := .f32) (Host.exp (φ := .f32) (channel P k h)) G) (ix5 b a i j 0)
      = Ideal.exp (P (ix5 b a i j ⟨k, hk⟩)) * G (ix4 b a i j) := by
  rw [← channel_apply P b a i j k hk h]
  pointwise
  all_goals rfl

end Pieces

variable (b : Fin 32) (r : Fin 17328)

/-- The grid row of a row of the result, -/
def rowOf : Fin 76 := ⟨r.val / 76 % 76, by omega⟩
/-- and its grid column. -/
def columnOf : Fin 76 := ⟨r.val % 76, by omega⟩

/-- The boxes flattened and scaled by the stride, -/
theorem boxes_apply (A : Vec Ideal S32x3x76x76x4 .f32) (l : Fin 4) :
    mulf (F := Ideal) (shapeCast S32x17328x4 A shapeCasts_S32x3x76x76x4_S32x17328x4)
        (broadcastInDim S32x17328x4 ![0, 1, 2] bcast_S1x1x4_S32x17328x4_0_1_2
          (broadcastInDim S1x1x4 ![2] bcast_S4_S1x1x4_2 (constant (F := Ideal) S4 .f32 0x41000000#32))) (ix3 b r l)
      = A (ix5 b (anchorOf r) (rowOf r) (columnOf r) l) * Ideal.ofBits .f32 0x41000000#32 := by
  pointwise
  all_goals rfl

/-- the confidences flattened, -/
theorem confidence_apply (A : Vec Ideal S32x3x76x76 .f32) :
    shapeCast S32x17328x1 A shapeCasts_S32x3x76x76_S32x17328x1 (ix3 b r 0)
      = A (ix4 b (anchorOf r) (rowOf r) (columnOf r)) := by
  pointwise
  all_goals rfl

/-- and the classes flattened. -/
theorem classes_apply (A : Vec Ideal S32x3x76x76x80 .f32) (l : Fin 80) :
    shapeCast S32x17328x80 A shapeCasts_S32x3x76x76x80_S32x17328x80 (ix3 b r l)
      = A (ix5 b (anchorOf r) (rowOf r) (columnOf r) l) := by
  pointwise
  all_goals rfl

/-- The raw prediction that an element of the result is made of. -/
def rawOf (X : Vec Ideal S32x255x76x76 .f32) (l : Fin 85) : EReal := X (ix4 b (chanOf r l) (rowOf r) (columnOf r))

/-- An element of the reference's result, by its attribute. -/
def referenceVal (X : Vec Ideal S32x255x76x76 .f32) (l : Fin 85) : EReal :=
  if l.val = 0 then (Ideal.logistic (rawOf b r X l) + wordVal (r.val % 76)) * Ideal.ofBits .f32 0x41000000#32
  else if l.val = 1 then (Ideal.logistic (rawOf b r X l) + wordVal (r.val / 76 % 76)) * Ideal.ofBits .f32 0x41000000#32
  else if l.val = 2 then Ideal.exp (rawOf b r X l) * Ideal.ofBits .f32 (anchorBits (anchorOf r) 0)
    * Ideal.ofBits .f32 0x41000000#32
  else if l.val = 3 then Ideal.exp (rawOf b r X l) * Ideal.ofBits .f32 (anchorBits (anchorOf r) 1)
    * Ideal.ofBits .f32 0x41000000#32
  else Ideal.logistic (rawOf b r X l)

/-- From attribute 4 on there is the logistic alone. -/
theorem referenceVal_of_ge (X : Vec Ideal S32x255x76x76 .f32) {l : Fin 85} (hl : ¬l.val < 4) :
    referenceVal b r X l = Ideal.logistic (rawOf b r X l) := by
  unfold referenceVal
  rw [if_neg (by omega), if_neg (by omega), if_neg (by omega), if_neg (by omega)]

variable (m : (ℓ : Loc nD τ sig) → Buf (Elt Ideal) ℓ)

/-- The reference's result at an index. -/
theorem reference_apply (c : Dev nD) (l : Fin 85) :
    Value.res_main_v68 m c (ix3 b r l) = referenceVal b r (m (c.tc.loc main_arg0)) l := by
  unfold Value.res_main_v68
  refine (join3 _ _ _ b r l).trans ?_
  by_cases h4 : l.val < 4
  · refine (dif_pos h4).trans ((boxes_apply b r _ _).trans ((congrArg (· * _) (join4 _ _ _ _ _ _ _ _ _)).trans ?_))
    obtain ⟨l, hl⟩ := l
    change l < 4 at h4
    interval_cases l
    · refine congrArg (· * _) ((centre_apply _ _ _ _ _ 0 (by decide) _ columns).trans ?_)
      rw [turned_apply, columns_apply]
      rfl
    · refine congrArg (· * _) ((centre_apply _ _ _ _ _ 1 (by decide) _ rows).trans ?_)
      rw [turned_apply, rows_apply]
      rfl
    · refine congrArg (· * _) ((side_apply _ _ _ _ _ 2 (by decide) _ (anchors 0 _)).trans ?_)
      rw [turned_apply, anchors_apply _ _ _ _ 0 (by decide)]
      rfl
    · refine congrArg (· * _) ((side_apply _ _ _ _ _ 3 (by decide) _ (anchors 1 _)).trans ?_)
      rw [turned_apply, anchors_apply _ _ _ _ 1 (by decide)]
      rfl
  · rw [referenceVal_of_ge b r _ h4]
    refine (dif_neg h4).trans ?_
    by_cases h : l.val = 4
    · refine (if_pos h).trans ((confidence_apply b r _).trans ((logisticOf_apply _ _ _).trans (congrArg Ideal.logistic ?_)))
      obtain rfl : l = 4 := Fin.ext h
      exact (channel_apply _ _ _ _ _ 4 (by decide) _).trans (turned_apply _ _ _ _ _ _)
    · refine (if_neg h).trans ((classes_apply b r _ _).trans ((logisticOf_apply _ _ _).trans (congrArg Ideal.logistic ?_)))
      refine (classSlice_apply _ _ _ _ _ _).trans ((turned_apply _ _ _ _ _ _).trans ?_)
      exact congrArg (fun k => m (c.tc.loc main_arg0) (ix4 b k (rowOf r) (columnOf r))) (Fin.ext (by
        show 85 * (r.val / 5776) + (5 + (l.val - 5)) = 85 * (r.val / 5776) + l.val
        omega))

end Cert.Proof

end
-- ==== Proof.Equal.lean ====
/-
  The kernel's result array is the reference's.

  Every element of either is made of one raw prediction; which one is the same for both. What is left is the mathematics
  of one element.
-/
module

public import proofs.«01_k».proof.Proof.Ref

@[expose] public section

set_option maxRecDepth 16384

noncomputable section

namespace Cert.Proof

open Idealize.ShloMosaic Idealize.ShloMosaic.TcCoe

/-- The anchors' widths and heights in pixels. -/
def pixels : Fin 3 → Fin 2 → ℝ := ![![116, 90], ![156, 198], ![373, 326]]

/-- The kernel's factors at the sizes are the anchors in pixels, -/
theorem scale_pixels (a : Fin 3) (k : Fin 2) :
    Ideal.ofBits .f32 (scaleBits a ⟨2 + k.val, by omega⟩) = (pixels a k : EReal) := by
  fin_cases a <;> fin_cases k <;> simp [scaleBits, pixels, Ideal.ofBits, Ideal.ieee, -EReal.coe_mul] <;> norm_num

/-- the reference's the anchors in cells, an eighth of them. -/
theorem anchor_cells (a : Fin 3) (k : Fin 2) :
    Ideal.ofBits .f32 (anchorBits a k) = ((pixels a k / 8 : ℝ) : EReal) := by
  fin_cases a <;> fin_cases k <;> simp [anchorBits, pixels, Ideal.ofBits, Ideal.ieee, -EReal.coe_mul] <;> norm_num

/-- Off the sizes, a decoded element is its logistic, scaled and shifted. -/
theorem decoded_logistic {l : ℕ} (hl : ¬(l = 2 ∨ l = 3)) (x μ α : EReal) :
    decoded l x μ α = Ideal.logistic x * μ + α := by
  unfold decoded
  rw [if_neg hl, bits_half, half_tanh_eq_logistic]

/-- At the sizes it is its exponential, scaled and shifted. -/
theorem decoded_exp {l : ℕ} (hl : l = 2 ∨ l = 3) (x μ α : EReal) : decoded l x μ α = Ideal.exp x * μ + α := by
  unfold decoded
  rw [if_pos hl]

/-- One element: the kernel's is the reference's. -/
theorem decoded_eq_referenceVal (X : Vec Ideal Cert.ReferenceIdeal.S32x255x76x76 .f32) (b : Fin 32) (r : Fin 17328)
    (l : Fin 85) :
    decoded l.val (rawOf b r X l) (Ideal.ofBits .f32 (scaleBits (anchorOf r) l)) (shift r l) = referenceVal b r X l := by
  have hr := r.isLt
  have e1 : r.val % 5776 % 76 = r.val % 76 := by omega
  have e2 : r.val % 5776 / 76 = r.val / 76 % 76 := by omega
  unfold referenceVal shift
  by_cases h0 : l.val = 0
  · rw [if_pos h0, if_pos h0, decoded_logistic (by omega), scaleBits, if_pos (by omega), bits_eight, e1]
    exact centre_scaled _ _ _
  rw [if_neg h0, if_neg h0]
  by_cases h1 : l.val = 1
  · rw [if_pos h1, if_pos h1, decoded_logistic (by omega), scaleBits, if_pos (by omega), bits_eight, e2]
    exact centre_scaled _ _ _
  rw [if_neg h1, if_neg h1]
  by_cases h2 : l.val = 2
  · have hl : (⟨2, by decide⟩ : Fin 85) = l := Fin.ext h2.symm
    have hp : Ideal.ofBits .f32 (scaleBits (anchorOf r) l) = (pixels (anchorOf r) 0 : EReal) :=
      hl ▸ scale_pixels (anchorOf r) 0
    rw [if_pos h2, decoded_exp (.inl h2), add_zero, hp, anchor_cells, bits_eight]
    exact size_scaled _ (by ring)
  rw [if_neg h2]
  by_cases h3 : l.val = 3
  · have hl : (⟨3, by decide⟩ : Fin 85) = l := Fin.ext h3.symm
    have hp : Ideal.ofBits .f32 (scaleBits (anchorOf r) l) = (pixels (anchorOf r) 1 : EReal) :=
      hl ▸ scale_pixels (anchorOf r) 1
    rw [if_pos h3, decoded_exp (.inr h3), add_zero, hp, anchor_cells, bits_eight]
    exact size_scaled _ (by ring)
  rw [if_neg h3, decoded_logistic (by omega), add_zero, scaleBits, if_neg (by omega), if_neg h2, if_neg h3,
    Ideal.ofBits_one_f32, mul_one]

section Kernel

open Cert.KernelIdeal Cert.KernelIdeal.Gen

variable (m : (ℓ : Loc nD τ sig) → Buf (Elt Ideal) ℓ) (ρ : Dev nD → PrngReg)

/-- An element of the kernel's result, by the one raw prediction that it is made of. -/
theorem kernel_apply (c : Dev nD) (b : Fin 32) (r : Fin 17328) (l : Fin 85) :
    W7 m ρ c main_v26 (ix3 b r l) = decoded l.val (rawOf b r (m ((c : Thread nD τ).loc main_arg0)) l)
      (Ideal.ofBits .f32 (scaleBits (anchorOf r) l)) (shift r l) := by
  have hb := b.isLt
  have hr := r.isLt
  have hi : (⟨(cellOf r).val / 76, by omega⟩ : Fin 76) = rowOf r := Fin.ext (by
    show r.val % 5776 / 76 = r.val / 76 % 76; omega)
  have hj : (⟨(cellOf r).val % 76, by omega⟩ : Fin 76) = columnOf r := Fin.ext (by
    show r.val % 5776 % 76 = r.val % 76; omega)
  refine (result m ρ c b r l).trans ?_
  unfold arrayVal
  rw [shifts, scales]
  by_cases h : b.val < 16
  · refine (if_pos h).trans ?_
    rw [first_half, hi, hj]
    have e : (⟨(halfOf b).val, by omega⟩ : Fin 32) = b := Fin.ext (by show b.val % 16 = b.val; omega)
    rw [e]
    rfl
  · refine (if_neg h).trans ?_
    rw [second_half, hi, hj]
    have e : (⟨16 + (halfOf b).val, by omega⟩ : Fin 32) = b := Fin.ext (by show 16 + b.val % 16 = b.val; omega)
    rw [e]
    rfl

end Kernel

end Cert.Proof

end
-- ==== Proof.lean ====
/-
  The certificate: the decoding kernel, its idealization and the plain decoding each run to the end and leave their
  argument alone, and the kernel's result is the plain decoding's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Lib.Quiescent

@[expose] public section

noncomputable section

namespace Cert.Proof

open Idealize.ShloMosaic Idealize.ShloMosaic.TcCoe Idealize.SL.Sem

/-- The reference terminates with its argument as it was, and no counter is ever raised. -/
theorem reference_frame : quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the two programs end with equal results: the kernel's record of its result array. -/
theorem same_result : algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W7 m g c Cert.KernelIdeal.main_v26, run_kernel m g, ?_⟩
  refine (θ_run Cert.ReferenceIdeal.defs _ _).mono (fun r h c => ⟨(h c).1.trans ?_, (h c).2⟩)
    (Cert.ReferenceIdeal.Value.run (F := Ideal) m' g')
  funext i
  idx_vars i
  refine (reference_apply _ _ m' c _).trans ?_
  rw [hagree c]
  exact ((kernel_apply m g c _ _ _).trans (decoded_eq_referenceVal _ _ _ _)).symm

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    same_result⟩

end Cert.Proof

end
